-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_Reference (m : (ℓ : Loc Cert.Reference.nD Cert.Reference.τ Cert.Reference.sig) → Buf (Elt Bits) ℓ) : Prop :=
  True

def Pre_Reference_labels_in_range [hPre_labels_in_range : Cert.Pre_labels_in_range.Facts] (m : (ℓ : Loc Cert.Reference.nD Cert.Reference.τ Cert.Reference.sig) → Buf (Elt Bits) ℓ) : Prop :=
  ∀ c : Dev Cert.Reference.nD,
    (Cert.Pre_labels_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelWeighted [hPre_labels_in_range : Cert.Pre_labels_in_range.Facts] (m : (ℓ : Loc Cert.KernelWeighted.nD Cert.KernelWeighted.τ Cert.KernelWeighted.sig) → Buf (Elt Bits) ℓ) : Prop :=
  ∀ c : Dev Cert.KernelWeighted.nD,
    (Cert.Pre_labels_in_range.fn (F := Bits) (m ((c.tc : Thread Cert.KernelWeighted.nD Cert.KernelWeighted.τ).loc Cert.KernelWeighted.main_arg0)) (m ((c.tc : Thread Cert.KernelWeighted.nD Cert.KernelWeighted.τ).loc Cert.KernelWeighted.main_arg1)) (m ((c.tc : Thread Cert.KernelWeighted.nD Cert.KernelWeighted.τ).loc Cert.KernelWeighted.main_arg2))) = (fun _ => 1#1)

def Pre_KernelWeightedIdeal [hPre_labels_in_range : Cert.Pre_labels_in_range.Facts] (m : (ℓ : Loc Cert.KernelWeightedIdeal.nD Cert.KernelWeightedIdeal.τ Cert.KernelWeightedIdeal.sig) → Buf (Elt Ideal) ℓ) : Prop :=
  ∀ c : Dev Cert.KernelWeightedIdeal.nD,
    (Cert.Pre_labels_in_range.fn (F := Ideal) (m ((c.tc : Thread Cert.KernelWeightedIdeal.nD Cert.KernelWeightedIdeal.τ).loc Cert.KernelWeightedIdeal.main_arg0)) (m ((c.tc : Thread Cert.KernelWeightedIdeal.nD Cert.KernelWeightedIdeal.τ).loc Cert.KernelWeightedIdeal.main_arg1)) (m ((c.tc : Thread Cert.KernelWeightedIdeal.nD Cert.KernelWeightedIdeal.τ).loc Cert.KernelWeightedIdeal.main_arg2))) = (fun _ => 1#1)

def Pre_ReferenceWeightedIdeal (m : (ℓ : Loc Cert.ReferenceWeightedIdeal.nD Cert.ReferenceWeightedIdeal.τ Cert.ReferenceWeightedIdeal.sig) → Buf (Elt Ideal) ℓ) : Prop :=
  True

def Pre_ReferenceWeightedIdeal_labels_in_range [hPre_labels_in_range : Cert.Pre_labels_in_range.Facts] (m : (ℓ : Loc Cert.ReferenceWeightedIdeal.nD Cert.ReferenceWeightedIdeal.τ Cert.ReferenceWeightedIdeal.sig) → Buf (Elt Ideal) ℓ) : Prop :=
  ∀ c : Dev Cert.ReferenceWeightedIdeal.nD,
    (Cert.Pre_labels_in_range.fn (F := Ideal) (m ((c.tc : Thread Cert.ReferenceWeightedIdeal.nD Cert.ReferenceWeightedIdeal.τ).loc Cert.ReferenceWeightedIdeal.main_arg0)) (m ((c.tc : Thread Cert.ReferenceWeightedIdeal.nD Cert.ReferenceWeightedIdeal.τ).loc Cert.ReferenceWeightedIdeal.main_arg1)) (m ((c.tc : Thread Cert.ReferenceWeightedIdeal.nD Cert.ReferenceWeightedIdeal.τ).loc Cert.ReferenceWeightedIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Reference_pre_labels_in_range [hReference : Cert.Reference.Facts] [hPre_labels_in_range : Cert.Pre_labels_in_range.Facts] : Prop :=
  ∀ (m : (ℓ : Loc Cert.Reference.nD Cert.Reference.τ Cert.Reference.sig) → Buf (Elt Bits) ℓ) (g : Dev Cert.Reference.nD → PrngReg), Pre_Reference_labels_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelWeighted [hKernelWeighted : Cert.KernelWeighted.Facts] [hPre_labels_in_range : Cert.Pre_labels_in_range.Facts] : Prop :=
  ∀ (m : (ℓ : Loc Cert.KernelWeighted.nD Cert.KernelWeighted.τ Cert.KernelWeighted.sig) → Buf (Elt Bits) ℓ) (g : Dev Cert.KernelWeighted.nD → PrngReg), Pre_KernelWeighted m →
    θ_run (Cert.KernelWeighted.defs (F := Bits)) (onTc (τ := Cert.KernelWeighted.τ) (Cert.KernelWeighted.main (F := Bits))) ⟨m, fun _ => 0, g⟩ (fun r => (∀ c : Dev Cert.KernelWeighted.nD,
      r.2.mem ((c.tc : Thread Cert.KernelWeighted.nD Cert.KernelWeighted.τ).loc Cert.KernelWeighted.main_arg0) = m ((c.tc : Thread Cert.KernelWeighted.nD Cert.KernelWeighted.τ).loc Cert.KernelWeighted.main_arg0)
      ∧ r.2.mem ((c.tc : Thread Cert.KernelWeighted.nD Cert.KernelWeighted.τ).loc Cert.KernelWeighted.main_arg1) = m ((c.tc : Thread Cert.KernelWeighted.nD Cert.KernelWeighted.τ).loc Cert.KernelWeighted.main_arg1)
      ∧ r.2.mem ((c.tc : Thread Cert.KernelWeighted.nD Cert.KernelWeighted.τ).loc Cert.KernelWeighted.main_arg2) = m ((c.tc : Thread Cert.KernelWeighted.nD Cert.KernelWeighted.τ).loc Cert.KernelWeighted.main_arg2))
      ∧ r.2.sem = fun _ => 0)

def quiescent_KernelWeightedIdeal [hKernelWeightedIdeal : Cert.KernelWeightedIdeal.Facts] [hPre_labels_in_range : Cert.Pre_labels_in_range.Facts] : Prop :=
  ∀ (m : (ℓ : Loc Cert.KernelWeightedIdeal.nD Cert.KernelWeightedIdeal.τ Cert.KernelWeightedIdeal.sig) → Buf (Elt Ideal) ℓ) (g : Dev Cert.KernelWeightedIdeal.nD → PrngReg), Pre_KernelWeightedIdeal m →
    θ_run (Cert.KernelWeightedIdeal.defs (F := Ideal)) (onTc (τ := Cert.KernelWeightedIdeal.τ) (Cert.KernelWeightedIdeal.main (F := Ideal))) ⟨m, fun _ => 0, g⟩ (fun r => (∀ c : Dev Cert.KernelWeightedIdeal.nD,
      r.2.mem ((c.tc : Thread Cert.KernelWeightedIdeal.nD Cert.KernelWeightedIdeal.τ).loc Cert.KernelWeightedIdeal.main_arg0) = m ((c.tc : Thread Cert.KernelWeightedIdeal.nD Cert.KernelWeightedIdeal.τ).loc Cert.KernelWeightedIdeal.main_arg0)
      ∧ r.2.mem ((c.tc : Thread Cert.KernelWeightedIdeal.nD Cert.KernelWeightedIdeal.τ).loc Cert.KernelWeightedIdeal.main_arg1) = m ((c.tc : Thread Cert.KernelWeightedIdeal.nD Cert.KernelWeightedIdeal.τ).loc Cert.KernelWeightedIdeal.main_arg1)
      ∧ r.2.mem ((c.tc : Thread Cert.KernelWeightedIdeal.nD Cert.KernelWeightedIdeal.τ).loc Cert.KernelWeightedIdeal.main_arg2) = m ((c.tc : Thread Cert.KernelWeightedIdeal.nD Cert.KernelWeightedIdeal.τ).loc Cert.KernelWeightedIdeal.main_arg2))
      ∧ r.2.sem = fun _ => 0)

def quiescent_ReferenceWeightedIdeal [hReferenceWeightedIdeal : Cert.ReferenceWeightedIdeal.Facts] : Prop :=
  ∀ (m : (ℓ : Loc Cert.ReferenceWeightedIdeal.nD Cert.ReferenceWeightedIdeal.τ Cert.ReferenceWeightedIdeal.sig) → Buf (Elt Ideal) ℓ) (g : Dev Cert.ReferenceWeightedIdeal.nD → PrngReg), Pre_ReferenceWeightedIdeal m →
    θ_run (Cert.ReferenceWeightedIdeal.defs (F := Ideal)) (onTc (τ := Cert.ReferenceWeightedIdeal.τ) (Cert.ReferenceWeightedIdeal.main (F := Ideal))) ⟨m, fun _ => 0, g⟩ (fun r => (∀ c : Dev Cert.ReferenceWeightedIdeal.nD,
      r.2.mem ((c.tc : Thread Cert.ReferenceWeightedIdeal.nD Cert.ReferenceWeightedIdeal.τ).loc Cert.ReferenceWeightedIdeal.main_arg0) = m ((c.tc : Thread Cert.ReferenceWeightedIdeal.nD Cert.ReferenceWeightedIdeal.τ).loc Cert.ReferenceWeightedIdeal.main_arg0)
      ∧ r.2.mem ((c.tc : Thread Cert.ReferenceWeightedIdeal.nD Cert.ReferenceWeightedIdeal.τ).loc Cert.ReferenceWeightedIdeal.main_arg1) = m ((c.tc : Thread Cert.ReferenceWeightedIdeal.nD Cert.ReferenceWeightedIdeal.τ).loc Cert.ReferenceWeightedIdeal.main_arg1)
      ∧ r.2.mem ((c.tc : Thread Cert.ReferenceWeightedIdeal.nD Cert.ReferenceWeightedIdeal.τ).loc Cert.ReferenceWeightedIdeal.main_arg2) = m ((c.tc : Thread Cert.ReferenceWeightedIdeal.nD Cert.ReferenceWeightedIdeal.τ).loc Cert.ReferenceWeightedIdeal.main_arg2))
      ∧ r.2.sem = fun _ => 0)

def quiescent_ReferenceWeightedIdeal_pre_labels_in_range [hReferenceWeightedIdeal : Cert.ReferenceWeightedIdeal.Facts] [hPre_labels_in_range : Cert.Pre_labels_in_range.Facts] : Prop :=
  ∀ (m : (ℓ : Loc Cert.ReferenceWeightedIdeal.nD Cert.ReferenceWeightedIdeal.τ Cert.ReferenceWeightedIdeal.sig) → Buf (Elt Ideal) ℓ) (g : Dev Cert.ReferenceWeightedIdeal.nD → PrngReg), Pre_ReferenceWeightedIdeal_labels_in_range m →
    θ_run (Cert.ReferenceWeightedIdeal.defs (F := Ideal)) (onTc (τ := Cert.ReferenceWeightedIdeal.τ) (Cert.ReferenceWeightedIdeal.main (F := Ideal))) ⟨m, fun _ => 0, g⟩ (fun r => (∀ c : Dev Cert.ReferenceWeightedIdeal.nD,
      r.2.mem ((c.tc : Thread Cert.ReferenceWeightedIdeal.nD Cert.ReferenceWeightedIdeal.τ).loc Cert.ReferenceWeightedIdeal.main_arg0) = m ((c.tc : Thread Cert.ReferenceWeightedIdeal.nD Cert.ReferenceWeightedIdeal.τ).loc Cert.ReferenceWeightedIdeal.main_arg0)
      ∧ r.2.mem ((c.tc : Thread Cert.ReferenceWeightedIdeal.nD Cert.ReferenceWeightedIdeal.τ).loc Cert.ReferenceWeightedIdeal.main_arg1) = m ((c.tc : Thread Cert.ReferenceWeightedIdeal.nD Cert.ReferenceWeightedIdeal.τ).loc Cert.ReferenceWeightedIdeal.main_arg1)
      ∧ r.2.mem ((c.tc : Thread Cert.ReferenceWeightedIdeal.nD Cert.ReferenceWeightedIdeal.τ).loc Cert.ReferenceWeightedIdeal.main_arg2) = m ((c.tc : Thread Cert.ReferenceWeightedIdeal.nD Cert.ReferenceWeightedIdeal.τ).loc Cert.ReferenceWeightedIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v3)) (v1 : (c : Dev Cert.Kernel.nD) → Buf (Elt Bits) ((c.tc : Thread Cert.Kernel.nD Cert.Kernel.τ).loc Cert.Kernel.main_arg2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg2) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg2) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_KernelWeighted_KernelWeightedIdeal : Prop :=
  True

def algebraic_KernelWeightedIdeal_ReferenceWeightedIdeal [hKernelWeightedIdeal : Cert.KernelWeightedIdeal.Facts] [hReferenceWeightedIdeal : Cert.ReferenceWeightedIdeal.Facts] [hPre_labels_in_range : Cert.Pre_labels_in_range.Facts] : Prop :=
  ∀ (m : (ℓ : Loc Cert.KernelWeightedIdeal.nD Cert.KernelWeightedIdeal.τ Cert.KernelWeightedIdeal.sig) → Buf (Elt Ideal) ℓ) (g : Dev Cert.KernelWeightedIdeal.nD → PrngReg)
    (m' : (ℓ : Loc Cert.ReferenceWeightedIdeal.nD Cert.ReferenceWeightedIdeal.τ Cert.ReferenceWeightedIdeal.sig) → Buf (Elt Ideal) ℓ) (g' : Dev Cert.ReferenceWeightedIdeal.nD → PrngReg), Pre_KernelWeightedIdeal m →
    (∀ c : Dev Cert.KernelWeightedIdeal.nD,
      m' ((c.tc : Thread Cert.ReferenceWeightedIdeal.nD Cert.ReferenceWeightedIdeal.τ).loc Cert.ReferenceWeightedIdeal.main_arg0) = m ((c.tc : Thread Cert.KernelWeightedIdeal.nD Cert.KernelWeightedIdeal.τ).loc Cert.KernelWeightedIdeal.main_arg0)
      ∧ m' ((c.tc : Thread Cert.ReferenceWeightedIdeal.nD Cert.ReferenceWeightedIdeal.τ).loc Cert.ReferenceWeightedIdeal.main_arg1) = m ((c.tc : Thread Cert.KernelWeightedIdeal.nD Cert.KernelWeightedIdeal.τ).loc Cert.KernelWeightedIdeal.main_arg1)
      ∧ m' ((c.tc : Thread Cert.ReferenceWeightedIdeal.nD Cert.ReferenceWeightedIdeal.τ).loc Cert.ReferenceWeightedIdeal.main_arg2) = m ((c.tc : Thread Cert.KernelWeightedIdeal.nD Cert.KernelWeightedIdeal.τ).loc Cert.KernelWeightedIdeal.main_arg2)) →
    ∃ (v0 : (c : Dev Cert.KernelWeightedIdeal.nD) → Buf (Elt Ideal) ((c.tc : Thread Cert.KernelWeightedIdeal.nD Cert.KernelWeightedIdeal.τ).loc Cert.KernelWeightedIdeal.main_v3)) (v1 : (c : Dev Cert.KernelWeightedIdeal.nD) → Buf (Elt Ideal) ((c.tc : Thread Cert.KernelWeightedIdeal.nD Cert.KernelWeightedIdeal.τ).loc Cert.KernelWeightedIdeal.main_arg2)) (v2 : (c : Dev Cert.KernelWeightedIdeal.nD) → Buf (Elt Ideal) ((c.tc : Thread Cert.KernelWeightedIdeal.nD Cert.KernelWeightedIdeal.τ).loc Cert.KernelWeightedIdeal.main_v2_1)),
      θ_run (Cert.KernelWeightedIdeal.defs (F := Ideal)) (onTc (τ := Cert.KernelWeightedIdeal.τ) (Cert.KernelWeightedIdeal.main (F := Ideal))) ⟨m, fun _ => 0, g⟩ (fun r => ∀ c : Dev Cert.KernelWeightedIdeal.nD,
          r.2.mem ((c.tc : Thread Cert.KernelWeightedIdeal.nD Cert.KernelWeightedIdeal.τ).loc Cert.KernelWeightedIdeal.main_v3) = v0 c
          ∧ r.2.mem ((c.tc : Thread Cert.KernelWeightedIdeal.nD Cert.KernelWeightedIdeal.τ).loc Cert.KernelWeightedIdeal.main_arg2) = v1 c
          ∧ r.2.mem ((c.tc : Thread Cert.KernelWeightedIdeal.nD Cert.KernelWeightedIdeal.τ).loc Cert.KernelWeightedIdeal.main_v2_1) = v2 c
          ∧ r.2.mem ((c.tc : Thread Cert.KernelWeightedIdeal.nD Cert.KernelWeightedIdeal.τ).loc Cert.KernelWeightedIdeal.main_arg0) = m ((c.tc : Thread Cert.KernelWeightedIdeal.nD Cert.KernelWeightedIdeal.τ).loc Cert.KernelWeightedIdeal.main_arg0)
          ∧ r.2.mem ((c.tc : Thread Cert.KernelWeightedIdeal.nD Cert.KernelWeightedIdeal.τ).loc Cert.KernelWeightedIdeal.main_arg1) = m ((c.tc : Thread Cert.KernelWeightedIdeal.nD Cert.KernelWeightedIdeal.τ).loc Cert.KernelWeightedIdeal.main_arg1)
          ∧ r.2.mem ((c.tc : Thread Cert.KernelWeightedIdeal.nD Cert.KernelWeightedIdeal.τ).loc Cert.KernelWeightedIdeal.main_arg2) = m ((c.tc : Thread Cert.KernelWeightedIdeal.nD Cert.KernelWeightedIdeal.τ).loc Cert.KernelWeightedIdeal.main_arg2))
      ∧ θ_run (Cert.ReferenceWeightedIdeal.defs (F := Ideal)) (onTc (τ := Cert.ReferenceWeightedIdeal.τ) (Cert.ReferenceWeightedIdeal.main (F := Ideal))) ⟨m', fun _ => 0, g'⟩ (fun r => ∀ c : Dev Cert.ReferenceWeightedIdeal.nD,
          r.2.mem ((c.tc : Thread Cert.ReferenceWeightedIdeal.nD Cert.ReferenceWeightedIdeal.τ).loc Cert.ReferenceWeightedIdeal.main_arg0) = v0 c
          ∧ r.2.mem ((c.tc : Thread Cert.ReferenceWeightedIdeal.nD Cert.ReferenceWeightedIdeal.τ).loc Cert.ReferenceWeightedIdeal.main_arg2) = v1 c
          ∧ r.2.mem ((c.tc : Thread Cert.ReferenceWeightedIdeal.nD Cert.ReferenceWeightedIdeal.τ).loc Cert.ReferenceWeightedIdeal.main_v5) = v2 c
          ∧ r.2.mem ((c.tc : Thread Cert.ReferenceWeightedIdeal.nD Cert.ReferenceWeightedIdeal.τ).loc Cert.ReferenceWeightedIdeal.main_arg0) = m' ((c.tc : Thread Cert.ReferenceWeightedIdeal.nD Cert.ReferenceWeightedIdeal.τ).loc Cert.ReferenceWeightedIdeal.main_arg0)
          ∧ r.2.mem ((c.tc : Thread Cert.ReferenceWeightedIdeal.nD Cert.ReferenceWeightedIdeal.τ).loc Cert.ReferenceWeightedIdeal.main_arg1) = m' ((c.tc : Thread Cert.ReferenceWeightedIdeal.nD Cert.ReferenceWeightedIdeal.τ).loc Cert.ReferenceWeightedIdeal.main_arg1)
          ∧ r.2.mem ((c.tc : Thread Cert.ReferenceWeightedIdeal.nD Cert.ReferenceWeightedIdeal.τ).loc Cert.ReferenceWeightedIdeal.main_arg2) = m' ((c.tc : Thread Cert.ReferenceWeightedIdeal.nD Cert.ReferenceWeightedIdeal.τ).loc Cert.ReferenceWeightedIdeal.main_arg2))

def Claim : Prop :=
  ∃ (hKernel : Cert.Kernel.Facts) (hKernelIdeal : Cert.KernelIdeal.Facts) (hReference : Cert.Reference.Facts) (hReferenceIdeal : Cert.ReferenceIdeal.Facts) (hKernelWeighted : Cert.KernelWeighted.Facts) (hKernelWeightedIdeal : Cert.KernelWeightedIdeal.Facts) (hReferenceWeightedIdeal : Cert.ReferenceWeightedIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_Reference (hReference := hReference)
    ∧ quiescent_Reference_pre_labels_in_range (hReference := hReference) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ quiescent_KernelWeighted (hKernelWeighted := hKernelWeighted) (hPre_labels_in_range := hPre_labels_in_range)
    ∧ quiescent_KernelWeightedIdeal (hKernelWeightedIdeal := hKernelWeightedIdeal) (hPre_labels_in_range := hPre_labels_in_range)
    ∧ quiescent_ReferenceWeightedIdeal (hReferenceWeightedIdeal := hReferenceWeightedIdeal)
    ∧ quiescent_ReferenceWeightedIdeal_pre_labels_in_range (hReferenceWeightedIdeal := hReferenceWeightedIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
    ∧ bitexact_Kernel_Reference (hKernel := hKernel) (hReference := hReference) (hPre_labels_in_range := hPre_labels_in_range)
    ∧ preserves_KernelWeighted_KernelWeightedIdeal
    ∧ algebraic_KernelWeightedIdeal_ReferenceWeightedIdeal (hKernelWeightedIdeal := hKernelWeightedIdeal) (hReferenceWeightedIdeal := hReferenceWeightedIdeal) (hPre_labels_in_range := hPre_labels_in_range)
-- ==== Pre_labels_in_range.lean ====
abbrev S128x256x32x32 : Shape := ⟨4, ![128, 256, 32, 32]⟩
abbrev S128 : Shape := ⟨1, ![128]⟩
abbrev S4x1x256x1x1 : Shape := ⟨5, ![4, 1, 256, 1, 1]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S128x256x32x32 .f32) (main_arg1 : IVec S128 32) (main_arg2 : FVec F S4x1x256x1x1 .f32) : IVec S_ 1 :=
  let main_c : IVec S_ 32 := constantI S_ 32 0#32
  let main_v0 : IVec S128 32 := broadcastInDim S128 ![] bcast_S_S128 main_c
  let main_v1 : IVec S128 1 := cmpi .sge main_arg1 main_v0
  let main_c_0 : IVec S_ 32 := constantI S_ 32 4#32
  let main_v2 : IVec S128 32 := broadcastInDim S128 ![] bcast_S_S128 main_c_0
  let main_v3 : IVec S128 1 := cmpi .slt main_arg1 main_v2
  let main_v4 : IVec S128 1 := andi main_v1 main_v3
  let main_c_1 : IVec S_ 1 := constantI S_ 1 1#1
  let main_v5 : IVec S_ 1 := (fun x v => Host.reduce IntOp.andi x v reducesTo_S128_S_d0 h_S_) main_v4 main_c_1
  main_v5
-- ==== Kernel.lean ====
abbrev S128x256x32x32 : Shape := ⟨4, ![128, 256, 32, 32]⟩
abbrev S128 : Shape := ⟨1, ![128]⟩
abbrev S4x1x256x1x1 : Shape := ⟨5, ![4, 1, 256, 1, 1]⟩
abbrev S128x256x1024 : Shape := ⟨3, ![128, 256, 1024]⟩
abbrev S4x1x256 : Shape := ⟨3, ![4, 1, 256]⟩
abbrev S128x1x256 : Shape := ⟨3, ![128, 1, 256]⟩
abbrev S1x256x1024 : Shape := ⟨3, ![1, 256, 1024]⟩
abbrev S1x1x256 : Shape := ⟨3, ![1, 1, 256]⟩
abbrev S1 : Shape := ⟨1, ![1]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 8
  | .smem => 1
  | _ => 0

abbrev bufTy : (tb : Table) → Fin (tcTables nBuf tb) → BufTy
  | .hbm, ⟨0, _⟩ => ⟨S128x256x32x32, .f32⟩
  | .hbm, ⟨1, _⟩ => ⟨S4x1x256x1x1, .f32⟩
  | .hbm, ⟨2, _⟩ => ⟨S128x256x1024, .f32⟩
  | .hbm, ⟨3, _⟩ => ⟨S4x1x256, .f32⟩
  | .hbm, ⟨4, _⟩ => ⟨S128x256x1024, .f32⟩
  | .hbm, ⟨5, _⟩ => ⟨S128x1x256, .f32⟩
  | .hbm, ⟨6, _⟩ => ⟨S128x256x32x32, .f32⟩
  | .local _ .vmem, ⟨0, _⟩ => ⟨S1x256x1024, .f32⟩
  | .local _ .vmem, ⟨1, _⟩ => ⟨S1x256x1024, .f32⟩
  | .local _ .vmem, ⟨2, _⟩ => ⟨S1x1x256, .f32⟩
  | .local _ .vmem, ⟨3, _⟩ => ⟨S1x1x256, .f32⟩
  | .local _ .vmem, ⟨4, _⟩ => ⟨S1x256x1024, .f32⟩
  | .local _ .vmem, ⟨5, _⟩ => ⟨S1x256x1024, .f32⟩
  | .local _ .vmem, ⟨6, _⟩ => ⟨S1x1x256, .f32⟩
  | .local _ .vmem, ⟨7, _⟩ => ⟨S1x1x256, .f32⟩
  | .local _ .smem, ⟨0, _⟩ => ⟨S128, .i32⟩
  | _, _ => ⟨S128x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference.lean ====
abbrev S128x256x32x32 : Shape := ⟨4, ![128, 256, 32, 32]⟩
abbrev S128 : Shape := ⟨1, ![128]⟩
abbrev S4x1x256x1x1 : Shape := ⟨5, ![4, 1, 256, 1, 1]⟩
abbrev S_ : Shape := ⟨0, ![]⟩
abbrev S128x1 : Shape := ⟨2, ![128, 1]⟩
abbrev S1 : Shape := ⟨1, ![1]⟩
abbrev S1x1 : Shape := ⟨2, ![1, 1]⟩
abbrev S128x1x256x1x1 : Shape := ⟨5, ![128, 1, 256, 1, 1]⟩
abbrev S128x256x1x1 : Shape := ⟨4, ![128, 256, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S128x256x32x32, .f32⟩
  | .hbm, ⟨1, _⟩ => ⟨S128, .i32⟩
  | .hbm, ⟨2, _⟩ => ⟨S4x1x256x1x1, .f32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S1, .i32⟩
  | .hbm, ⟨12, _⟩ => ⟨S_, .i32⟩
  | .hbm, ⟨13, _⟩ => ⟨S128x1, .i32⟩
  | .hbm, ⟨14, _⟩ => ⟨S128x1, .i1⟩
  | .hbm, ⟨15, _⟩ => ⟨S1x1, .i32⟩
  | .hbm, ⟨16, _⟩ => ⟨S128x1, .i32⟩
  | .hbm, ⟨17, _⟩ => ⟨S128x1, .i1⟩
  | .hbm, ⟨18, _⟩ => ⟨S128x1, .i1⟩
  | .hbm, ⟨19, _⟩ => ⟨S_, .i1⟩
  | .hbm, ⟨20, _⟩ => ⟨S128, .i1⟩
  | .hbm, ⟨21, _⟩ => ⟨S128x1x256x1x1, .f32⟩
  | .hbm, ⟨22, _⟩ => ⟨S128x1x256x1x1, .i1⟩
  | .hbm, ⟨23, _⟩ => ⟨S_, .f32⟩
  | .hbm, ⟨24, _⟩ => ⟨S128x1x256x1x1, .f32⟩
  | .hbm, ⟨25, _⟩ => ⟨S128x1x256x1x1, .f32⟩
  | .hbm, ⟨26, _⟩ => ⟨S128x256x1x1, .f32⟩
  | .hbm, ⟨27, _⟩ => ⟨S128x256x32x32, .f32⟩
  | .hbm, ⟨28, _⟩ => ⟨S128x256x32x32, .f32⟩
  | _, _ => ⟨S128x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== KernelWeighted.lean ====
abbrev S128x256x32x32 : Shape := ⟨4, ![128, 256, 32, 32]⟩
abbrev S128 : Shape := ⟨1, ![128]⟩
abbrev S4x1x256x1x1 : Shape := ⟨5, ![4, 1, 256, 1, 1]⟩
abbrev S128x256x1024 : Shape := ⟨3, ![128, 256, 1024]⟩
abbrev S4x1x256 : Shape := ⟨3, ![4, 1, 256]⟩
abbrev S128x1x256 : Shape := ⟨3, ![128, 1, 256]⟩
abbrev S1x256x1024 : Shape := ⟨3, ![1, 256, 1024]⟩
abbrev S1x1x256 : Shape := ⟨3, ![1, 1, 256]⟩
abbrev S1 : Shape := ⟨1, ![1]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 8
  | .smem => 1
  | _ => 0

abbrev bufTy : (tb : Table) → Fin (tcTables nBuf tb) → BufTy
  | .hbm, ⟨0, _⟩ => ⟨S128x256x32x32, .f32⟩
  | .hbm, ⟨1, _⟩ => ⟨S4x1x256x1x1, .f32⟩
  | .hbm, ⟨2, _⟩ => ⟨S128x256x1024, .f32⟩
  | .hbm, ⟨3, _⟩ => ⟨S4x1x256, .f32⟩
  | .hbm, ⟨4, _⟩ => ⟨S128x256x1024, .f32⟩
  | .hbm, ⟨5, _⟩ => ⟨S128x1x256, .f32⟩
  | .hbm, ⟨6, _⟩ => ⟨S128x256x32x32, .f32⟩
  | .local _ .vmem, ⟨0, _⟩ => ⟨S1x256x1024, .f32⟩
  | .local _ .vmem, ⟨1, _⟩ => ⟨S1x256x1024, .f32⟩
  | .local _ .vmem, ⟨2, _⟩ => ⟨S1x1x256, .f32⟩
  | .local _ .vmem, ⟨3, _⟩ => ⟨S1x1x256, .f32⟩
  | .local _ .vmem, ⟨4, _⟩ => ⟨S1x256x1024, .f32⟩
  | .local _ .vmem, ⟨5, _⟩ => ⟨S1x256x1024, .f32⟩
  | .local _ .vmem, ⟨6, _⟩ => ⟨S1x1x256, .f32⟩
  | .local _ .vmem, ⟨7, _⟩ => ⟨S1x1x256, .f32⟩
  | .local _ .smem, ⟨0, _⟩ => ⟨S128, .i32⟩
  | _, _ => ⟨S128x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceWeightedIdeal.lean ====
abbrev S128x256x32x32 : Shape := ⟨4, ![128, 256, 32, 32]⟩
abbrev S128 : Shape := ⟨1, ![128]⟩
abbrev S4x1x256x1x1 : Shape := ⟨5, ![4, 1, 256, 1, 1]⟩
abbrev S_ : Shape := ⟨0, ![]⟩
abbrev S128x1 : Shape := ⟨2, ![128, 1]⟩
abbrev S1 : Shape := ⟨1, ![1]⟩
abbrev S1x1 : Shape := ⟨2, ![1, 1]⟩
abbrev S128x1x256x1x1 : Shape := ⟨5, ![128, 1, 256, 1, 1]⟩
abbrev S128x256x1x1 : Shape := ⟨4, ![128, 256, 1, 1]⟩
abbrev S128x256 : Shape := ⟨2, ![128, 256]⟩
abbrev S128x1x256 : Shape := ⟨3, ![128, 1, 256]⟩

abbrev nBuf : Space → Nat
  | .hbm => 32
  | .vmem => 0
  | .smem => 0
  | _ => 0

abbrev bufTy : (tb : Table) → Fin (tcTables nBuf tb) → BufTy
  | .hbm, ⟨0, _⟩ => ⟨S128x256x32x32, .f32⟩
  | .hbm, ⟨1, _⟩ => ⟨S128, .i32⟩
  | .hbm, ⟨2, _⟩ => ⟨S4x1x256x1x1, .f32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S1, .i32⟩
  | .hbm, ⟨12, _⟩ => ⟨S_, .i32⟩
  | .hbm, ⟨13, _⟩ => ⟨S128x1, .i32⟩
  | .hbm, ⟨14, _⟩ => ⟨S128x1, .i1⟩
  | .hbm, ⟨15, _⟩ => ⟨S1x1, .i32⟩
  | .hbm, ⟨16, _⟩ => ⟨S128x1, .i32⟩
  | .hbm, ⟨17, _⟩ => ⟨S128x1, .i1⟩
  | .hbm, ⟨18, _⟩ => ⟨S128x1, .i1⟩
  | .hbm, ⟨19, _⟩ => ⟨S_, .i1⟩
  | .hbm, ⟨20, _⟩ => ⟨S128, .i1⟩
  | .hbm, ⟨21, _⟩ => ⟨S128x1x256x1x1, .f32⟩
  | .hbm, ⟨22, _⟩ => ⟨S128x1x256x1x1, .i1⟩
  | .hbm, ⟨23, _⟩ => ⟨S_, .f32⟩
  | .hbm, ⟨24, _⟩ => ⟨S128x1x256x1x1, .f32⟩
  | .hbm, ⟨25, _⟩ => ⟨S128x1x256x1x1, .f32⟩
  | .hbm, ⟨26, _⟩ => ⟨S128x256x1x1, .f32⟩
  | .hbm, ⟨27, _⟩ => ⟨S128x256x32x32, .f32⟩
  | .hbm, ⟨28, _⟩ => ⟨S128x256x32x32, .f32⟩
  | .hbm, ⟨29, _⟩ => ⟨S_, .f32⟩
  | .hbm, ⟨30, _⟩ => ⟨S128x256, .f32⟩
  | .hbm, ⟨31, _⟩ => ⟨S128x1x256, .f32⟩
  | _, _ => ⟨S128x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]
-- ==== Proof.Labels.lean ====
/- What the precondition `labels_in_range` says of the label array: every label, read as a natural number, is below 4. From it,
   the side condition the kernel's pipeline states of its prefetched label array: at every grid point the attention row the
   label names lies inside the attention array. -/
module

public import proofs.«01_k».proof.Defs
public import proofs.«01_k».proof.Proof.Gen.KernelIdeal.Frame
public import proofs.«01_k».proof.Proof.Gen.Pre_labels_in_range
public import Idealize.ShloMosaic.Lib.ReduceAll
public import Idealize.ShloMosaic.Lib.ValueIdx
public import Idealize.ShloMosaic.Lib.StableHlo.Predicate

@[expose] public section

noncomputable section

namespace Cert.LabelProof

open Idealize.ShloMosaic Idealize.ShloMosaic.TcCoe
open Cert.KernelIdeal Cert.KernelIdeal.Gen

variable {F : FTy → Type} [FloatOps F]

/-- A word that compares, signed, at least 0 and less than 4 is a natural number below 4. -/
theorem word_lt (w : BitVec 32) (h : IntOp.andi (IntOp.cmpi .sge w 0#32) (IntOp.cmpi .slt w 4#32) = 1#1) : w.toNat < 4 := by
  have both : ∀ a b : BitVec 1, IntOp.andi a b = 1#1 → a = 1#1 ∧ b = 1#1 := by decide
  obtain ⟨hge, hlt⟩ := both _ _ h
  simp only [IntOp.cmpi, StableHlo.Predicate.ofBool_eq_one_iff, BitVec.sle, BitVec.slt, decide_eq_true_eq] at hge hlt
  simp only [BitVec.toInt, BitVec.toNat_ofNat] at hge hlt
  omega

/-- Under the precondition every label is a natural number below 4, the number of attention rows. -/
theorem label_lt (x : FVec F S128x256x32x32 .f32) (lab : IVec S128 32) (att : FVec F S4x1x256x1x1 .f32)
    (h : Cert.Pre_labels_in_range.fn (F := F) x lab att = fun _ => 1#1) (i : S128.Idx) : (lab i).toNat < 4 := by
  have e := congrFun h (fun a => a.elim0)
  dsimp only [Cert.Pre_labels_in_range.fn] at e
  haveI : Subsingleton Cert.Pre_labels_in_range.S_.Idx := ⟨fun a b => funext fun k => k.elim0⟩
  exact word_lt _ (Host.reduce_andi_all _ _ _ _ _ e i)

variable (m : (ℓ : Loc nD τ sig) → Buf (Elt F) ℓ)

/-- The label of batch element `b` in the launch memory. -/
abbrev labelAt (b : Fin 128) : BitVec 32 := m (((0 : Dev nD) : Thread nD τ).loc main_arg1) (ValueIdx.ix1 b : S128.Idx)

/-- The attention window's block index at a grid point is the point's label, and 0 on the two other axes. -/
theorem transform_1_eq (i : grid0.Coords) (p1 p2) :
    cc0_transform_1 p1 p2 (tbl m) i = ![(labelAt m (i 0)).toNat, 0, 0] := by
  refine congrArg (fun w : BitVec 32 => (![w.toNat, 0, 0] : Fin 3 → Nat)) ?_
  refine (congrFun (V_main_arg1 m 0) _).trans (congrArg (m (((0 : Dev nD) : Thread nD τ).loc main_arg1)) ?_)
  refine (ValueIdx.eq_ix1 (n := 128) _).trans (congrArg ValueIdx.ix1 (Fin.ext ?_))
  refine (Rect.emb_apply _ _ _).trans ?_
  have hi : (i 0 : Nat) < 128 := (i 0).isLt
  show (BitVec.ofNat 32 (i 0).val).toNat + 1 * 0 = (i 0).val
  rw [BitVec.toNat_ofNat]
  omega

/-- When every label is below 4, the side condition the pipeline states of its prefetched labels holds. -/
theorem ok_of_lt (h : ∀ b : Fin 128, (labelAt m b).toNat < 4) : Ok m := by
  intro i
  refine ⟨fun a => ?_, Or.inl rfl⟩
  rw [transform_1_eq]
  have := h (i 0)
  fin_cases a
  · show ((labelAt m (i 0)).toNat + 1) * 1 ≤ 4
    omega
  · show (0 + 1) * 1 ≤ 1
    omega
  · show (0 + 1) * 256 ≤ 256
    omega

end Cert.LabelProof

end
-- ==== Proof.Arrays.lean ====
/- What the kernel's two output arrays hold after the pipeline: the first is the reshaped image array again, block by block;
   the second holds, for each batch element, the body's weighted sum of that element's block and its label's attention row. -/
module

public import proofs.«01_k».proof.Proof.Labels
public import Idealize.ShloMosaic.Lib.Pipeline.ValueKit
public import Idealize.ShloMosaic.Lib.Pipeline.Covers

@[expose] public section

noncomputable section

namespace Cert.ArrayProof

open Idealize.ShloMosaic Idealize.ShloMosaic.TcCoe
open Cert.KernelIdeal Cert.KernelIdeal.Gen Cert.LabelProof

variable {F : FTy → Type} [FloatOps F]
variable (m : (ℓ : Loc nD τ sig) → Buf (Elt F) ℓ)

/-- The body stores the image block it loaded: the two reshapes between undo each other. -/
theorem pay2_eq (v : Vec F S1x256x1024 .f32) : k0_pay2 v = v := by
  unfold k0_pay2 k0_pay1
  dsimp only
  rw [shapeCast_shapeCast]

/-- A grid coordinate, as the 32-bit word the index maps see and back, is itself. -/
theorem coord_toNat (i : grid0.Coords) : (BitVec.ofNat 32 (i 0).val).toNat = (i 0).val := by
  have hi : (i 0 : Nat) < 128 := (i 0).isLt
  rw [BitVec.toNat_ofNat]
  omega

/-- The grid point of batch element `b`. -/
def pointAt (b : Fin 128) : grid0.Coords := fun g => ⟨b.val, by
  obtain rfl : g = (0 : Fin 1) := Subsingleton.elim (α := Fin 1) _ _
  exact b.isLt⟩

/-- The blocks of the image output cover it. -/
theorem covers_2 (hO : Ok m) : ((cfgM m hO).win 2).Covers :=
  ((cfgM m hO).win 2).covers_of_indexMap_surj rfl (by show ∀ a, 0 < S1x256x1024.size a; decide) fun β =>
    ⟨pointAt ⟨(β (0 : Fin 3)).val, lt_of_lt_of_eq (β (0 : Fin 3)).isLt (show (128 + 1 - 1) / 1 = 128 by rfl)⟩, fun a => by
      match a with
      | ⟨0, _⟩ => exact coord_toNat (pointAt _)
      | ⟨1, _⟩ => exact (Nat.lt_one_iff.mp (lt_of_lt_of_eq (β (1 : Fin 3)).isLt (show (256 + 256 - 1) / 256 = 1 by rfl))).symm
      | ⟨2, _⟩ => exact (Nat.lt_one_iff.mp (lt_of_lt_of_eq (β (2 : Fin 3)).isLt (show (1024 + 1024 - 1) / 1024 = 1 by rfl))).symm⟩

/-- The blocks of the weighted-sum output cover it. -/
theorem covers_3 (hO : Ok m) : ((cfgM m hO).win 3).Covers :=
  ((cfgM m hO).win 3).covers_of_indexMap_surj rfl (by show ∀ a, 0 < S1x1x256.size a; decide) fun β =>
    ⟨pointAt ⟨(β (0 : Fin 3)).val, lt_of_lt_of_eq (β (0 : Fin 3)).isLt (show (128 + 1 - 1) / 1 = 128 by rfl)⟩, fun a => by
      match a with
      | ⟨0, _⟩ => exact coord_toNat (pointAt _)
      | ⟨1, _⟩ => exact (Nat.lt_one_iff.mp (lt_of_lt_of_eq (β (1 : Fin 3)).isLt (show (1 + 1 - 1) / 1 = 1 by rfl))).symm
      | ⟨2, _⟩ => exact (Nat.lt_one_iff.mp (lt_of_lt_of_eq (β (2 : Fin 3)).isLt (show (256 + 256 - 1) / 256 = 1 by rfl))).symm⟩

/-- Batch element `b`'s block of the reshaped image array. -/
def imageBlock (c : Dev nD) (b : Fin 128) : Vec F S1x256x1024 .f32 :=
  fun y => V m c main_v0 (ValueIdx.ix3 b (y 1) (y 2) : S128x256x1024.Idx)

/-- The attention row of number `r`, of the reshaped attention array. -/
def attentionRow (c : Dev nD) (r : Fin 4) : Vec F S1x1x256 .f32 :=
  fun y => V m c main_v1 (ValueIdx.ix3 r (y 1) (y 2) : S4x1x256.Idx)

/-- At a grid point the body is handed the image block of the point's batch element. -/
theorem iblk_0_eq (hO : Ok m) (c : Dev nD) (t : Fin (cfgM m hO).N) :
    iblk m hO c 0 t = imageBlock m c (grid0.coords t 0) := by
  funext y
  refine congrArg (V m c main_v0) (funext fun a => Fin.ext ?_)
  refine (Pipeline.Window.rect_emb_val ((cfgM m hO).win 0) t y a).trans ?_
  match a with
  | ⟨0, _⟩ =>
    have h : (y (0 : Fin 3)).val < 1 := (y (0 : Fin 3)).isLt
    show (BitVec.ofNat 32 (grid0.coords t 0).val).toNat * 1 + (y (0 : Fin 3)).val = (grid0.coords t 0).val
    rw [coord_toNat]
    omega
  | ⟨1, _⟩ => exact (Nat.zero_add _)
  | ⟨2, _⟩ => exact (Nat.zero_add _)

/-- At a grid point the body is handed the attention row that the label of the point's batch element names. -/
theorem iblk_1_eq (hO : Ok m) (hlt : ∀ b : Fin 128, (labelAt m b).toNat < 4) (c : Dev nD) (t : Fin (cfgM m hO).N) :
    iblk m hO c 1 t = attentionRow m c ⟨(labelAt m (grid0.coords t 0)).toNat, hlt _⟩ := by
  funext y
  refine congrArg (V m c main_v1) (funext fun a => Fin.ext ?_)
  refine (Pipeline.Window.rect_emb_val ((cfgM m hO).win 1) t y a).trans ?_
  have e : ((cfgM m hO).win 1).index t = ![(labelAt m (grid0.coords t 0)).toNat, 0, 0] := transform_1_eq m _ _ _
  rw [e]
  match a with
  | ⟨0, _⟩ =>
    have h : (y (0 : Fin 3)).val < 1 := (y (0 : Fin 3)).isLt
    show (labelAt m (grid0.coords t 0)).toNat * 1 + (y (0 : Fin 3)).val = (labelAt m (grid0.coords t 0)).toNat
    omega
  | ⟨1, _⟩ => exact (Nat.zero_add _)
  | ⟨2, _⟩ => exact (Nat.zero_add _)

/-- The image output holds, after the pipeline, what the image input held when the pipeline was entered. -/
theorem final_2 (hO : Ok m) (c : Dev nD) : (dats m hO 0 c).arrAt 2 (cfgM m hO).N = V m c main_v0 := by
  refine (dats m hO 0 c).arrAt_eq_of_covers 2 _ (covers_2 m hO) fun t hf y => ?_
  blk_simp
  rw [after0_2]
  unfold outsAt0
  frame_out
  refine (congrFun (congrArg k0_pay2 ((hs0_0 m hO t).read_unread (iblk m hO c 0 t))) y).trans ?_
  refine (congrFun (pay2_eq _) y).trans ?_
  refine (congrFun (iblk_0_eq m hO c t) y).trans ?_
  refine congrArg (V m c main_v0) (funext fun a => Fin.ext ?_)
  refine Eq.trans ?_ (Pipeline.Window.rect_emb_val ((cfgM m hO).win 2) t y a).symm
  match a with
  | ⟨0, _⟩ =>
    have h : (y (0 : Fin 3)).val < 1 := (y (0 : Fin 3)).isLt
    show (grid0.coords t 0).val = (BitVec.ofNat 32 (grid0.coords t 0).val).toNat * 1 + (y (0 : Fin 3)).val
    rw [coord_toNat]
    omega
  | ⟨1, _⟩ => exact (Nat.zero_add _).symm
  | ⟨2, _⟩ => exact (Nat.zero_add _).symm

/-- What the weighted-sum output is to hold at batch element `b` and channel `k`: the body's sum of `b`'s image block
    weighted by the attention row that `b`'s label names, at `k`. -/
def weightedSums (hlt : ∀ b : Fin 128, (labelAt m b).toNat < 4) (c : Dev nD) : Vec F S128x1x256 .f32 := fun j =>
  k0_pay3 (imageBlock m c (j 0)) (attentionRow m c ⟨(labelAt m (j 0)).toNat, hlt _⟩) (ValueIdx.ix3 0 0 (j 2) : S1x1x256.Idx)

/-- The weighted-sum output holds, after the pipeline, those sums. -/
theorem final_3 (hO : Ok m) (hlt : ∀ b : Fin 128, (labelAt m b).toNat < 4) (c : Dev nD) :
    (dats m hO 0 c).arrAt 3 (cfgM m hO).N = weightedSums m hlt c := by
  refine (dats m hO 0 c).arrAt_eq_of_covers 3 _ (covers_3 m hO) fun t hf y => ?_
  blk_simp
  rw [after0_3]
  unfold outsAt0
  frame_out
  refine (congrFun (congrArg₂ k0_pay3 (((hs0_0 m hO t).read_unread (iblk m hO c 0 t)).trans (iblk_0_eq m hO c t))
    (((hs0_1 m hO t).read_unread (iblk m hO c 1 t)).trans (iblk_1_eq m hO hlt c t))) y).trans ?_
  have h0 : (y (0 : Fin 3)).val < 1 := (y (0 : Fin 3)).isLt
  have h1 : (y (1 : Fin 3)).val < 1 := (y (1 : Fin 3)).isLt
  have e0 : (((cfgM m hO).win 3).rect t).emb y = (ValueIdx.ix3 (grid0.coords t 0) 0 (y (2 : Fin 3)) : S128x1x256.Idx) := by
    refine funext fun a => Fin.ext ?_
    refine (Pipeline.Window.rect_emb_val ((cfgM m hO).win 3) t y a).trans ?_
    match a with
    | ⟨0, _⟩ =>
      show (BitVec.ofNat 32 (grid0.coords t 0).val).toNat * 1 + (y (0 : Fin 3)).val = (grid0.coords t 0).val
      rw [coord_toNat]
      omega
    | ⟨1, _⟩ =>
      show 0 * 1 + (y (1 : Fin 3)).val = 0
      omega
    | ⟨2, _⟩ => exact (Nat.zero_add _)
  refine Eq.trans ?_ (congrArg (weightedSums m hlt c) e0).symm
  refine congrArg (k0_pay3 _ _) ((ValueIdx.eq_ix3 (n0 := 1) (n1 := 1) (n2 := 256) y).trans ?_)
  exact congrArg₂ (fun p q : Fin 1 => (ValueIdx.ix3 p q (y (2 : Fin 3)) : S1x1x256.Idx)) (Fin.ext (Nat.lt_one_iff.mp h0)) (Fin.ext (Nat.lt_one_iff.mp h1))

end Cert.ArrayProof

end
-- ==== Proof.KernelRun.lean ====
/- What the kernel's program leaves in its results, over any element type: every weakly fair execution ends with the image result
   equal to the image argument, the weighted-sum array at `weightedSums`, the arguments unchanged and every semaphore at zero. -/
module

public import proofs.«01_k».proof.Proof.Arrays

@[expose] public section

noncomputable section

namespace Cert.KernelRunProof

open Idealize.ShloMosaic Idealize.ShloMosaic.TcCoe Idealize.SL.Sem
open Cert.KernelIdeal Cert.KernelIdeal.Gen Cert.LabelProof Cert.ArrayProof

variable {F : FTy → Type} [FloatOps F]
variable (m : (ℓ : Loc nD τ sig) → Buf (Elt F) ℓ)

/-- When the pipeline is entered, its image array holds the image argument, reshaped. -/
theorem entry_image (c : Dev nD) :
    V m c main_v0 = shapeCast S128x256x1024 (m ((c : Thread nD τ).loc main_arg0)) shapeCasts_S128x256x32x32_S128x256x1024 := by
  show StableHlo.after (List.flatten [hostOps0]) (fun b => m (c, b)) (Proc.devRef .tc main_v0) = _
  simp only [List.flatten_cons, List.flatten_nil, List.append_nil]
  unfold_abbrev_sides
  after_results
  rfl

/-- When the pipeline is entered, its attention array holds the attention argument, reshaped. -/
theorem entry_attention (c : Dev nD) :
    V m c main_v1 = shapeCast S4x1x256 (m ((c : Thread nD τ).loc main_arg2)) shapeCasts_S4x1x256x1x1_S4x1x256 := by
  show StableHlo.after (List.flatten [hostOps0]) (fun b => m (c, b)) (Proc.devRef .tc main_v1) = _
  simp only [List.flatten_cons, List.flatten_nil, List.append_nil]
  unfold_abbrev_sides
  after_results
  rfl

/-- The image result, after the reshape that follows the pipeline, is the image argument. -/
theorem exit_image (hO : Ok m) (c : Dev nD) :
    Pipeline.afterTail pcfgs (fun _ => adm m hO) (dats m hO) 0 (V0 m) [hostOps1] c main_v3 = m ((c : Thread nD τ).loc main_arg0) := by
  unfold Pipeline.afterTail
  simp only [List.flatten_cons, List.flatten_nil, List.append_nil]
  unfold_abbrev_sides
  after_results
  have e : Pipeline.withArrays (Pipeline.pin pcfgs (fun _ => adm m hO) 0).spec c (V0 m c)
      (fun w => (dats m hO 0 c).arrAt w (Pipeline.pin pcfgs (fun _ => adm m hO) 0).N) (Proc.devRef .tc main_v2_0)
      = shapeCast S128x256x1024 (m ((c : Thread nD τ).loc main_arg0)) shapeCasts_S128x256x32x32_S128x256x1024 :=
    ((Pipeline.withArrays_arr (Pipeline.pin pcfgs (fun _ => adm m hO) 0).spec winFacts0.arr_inj c (V0 m c)
      (fun w => (dats m hO 0 c).arrAt w (Pipeline.pin pcfgs (fun _ => adm m hO) 0).N) 2).trans (final_2 m hO c)).trans (entry_image m c)
  rw [e]
  exact shapeCast_shapeCast _ _ _

/-- Every weakly fair execution of the kernel's program, from any memory whose labels are below 4 and with every semaphore
    at zero, ends with the image result equal to the image argument, the weighted-sum array at `weightedSums`, the three
    arguments unchanged, and every semaphore at zero. -/
theorem run (hlt : ∀ b : Fin 128, (labelAt m b).toNat < 4) (ρ : Dev nD → PrngReg) :
    θ_run defs (onTc (τ := τ) (main (F := F))) ⟨m, fun _ => 0, ρ⟩ fun r => (∀ c : Dev nD,
      r.2.mem ((c : Thread nD τ).loc main_v3) = m ((c : Thread nD τ).loc main_arg0)
      ∧ r.2.mem ((c : Thread nD τ).loc main_v2_1) = weightedSums m hlt c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 := by
  have hO : Ok m := ok_of_lt m hlt
  refine (θ_run defs _ _).mono (fun r h => ⟨fun c => ?_, h.2⟩) (run_main_quiescent m ρ hO)
  have hc := h.1 c
  exact ⟨(hc.2 main_v3 (by decide : main_v3 ∈ Pipeline.restRefs sig spec0)).trans (exit_image m hO c),
    (hc.1 3).trans (final_3 m hO hlt c),
    (hc.2 main_arg0 (by decide : main_arg0 ∈ Pipeline.restRefs sig spec0)).trans (W_main_arg0 m hO (dats m hO) c),
    (hc.2 main_arg1 (by decide : main_arg1 ∈ Pipeline.restRefs sig spec0)).trans (W_main_arg1 m hO (dats m hO) c),
    (hc.2 main_arg2 (by decide : main_arg2 ∈ Pipeline.restRefs sig spec0)).trans (W_main_arg2 m hO (dats m hO) c)⟩

end Cert.KernelRunProof

end
-- ==== Proof.TakenRows.lean ====
/- The reference's lookup of attention rows: when every label is below 4, the row it takes for batch element `b` is the attention
   row that `b`'s label names; the index is not wrapped, not clamped, and the out-of-range fill value is not used. -/
module

public import proofs.«01_k».proof.Defs
public import proofs.«01_k».proof.Proof.Gen.ReferenceWeightedIdeal
public import Idealize.ShloMosaic.Lib.ReduceAll
public import Idealize.ShloMosaic.Lib.ValueIdx
public import Idealize.ShloMosaic.Lib.StableHlo.Predicate

@[expose] public section

noncomputable section

namespace Cert.TakenRowsProof

open Idealize.ShloMosaic
open Cert.ReferenceWeightedIdeal Cert.ReferenceWeightedIdeal.Gen

variable {F : FTy → Type} [FloatOps F]

/-- The row numbers the reference computes from the labels: a negative label is counted from the end. -/
def rowNumbers (lab : IVec S128 32) : IVec S128x1 32 :=
  broadcastInDim S128x1 ![0] bcast_S128_S128x1_0
    (select (cmpi .slt lab (broadcastInDim S128 ![] bcast_S_S128 (constantI S_ 32 0#32)))
      (addi lab (broadcastInDim S128 ![] bcast_S_S128 (constantI S_ 32 4#32))) lab)

/-- For each batch element, whether its row number lies between 0 and 3. -/
def inRange (lab : IVec S128 32) : IVec S128 1 :=
  Host.reduce IntOp.andi
    (andi (cmpi .sge (rowNumbers lab) (broadcastInDim S128x1 ![] bcast_S_S128x1 (constantI S_ 32 0#32)))
      (cmpi .sle (rowNumbers lab)
        (broadcastInDim S128x1 ![0, 1] bcast_S1x1_S128x1_0_1 (broadcastInDim S1x1 ![1] bcast_S1_S1x1_1 (constantI S1 32 3#32)))))
    (constantI S_ 1 1#1) reducesTo_S128x1_S128_d1 h_S_

/-- The rows the reference takes: the attention array gathered at the row numbers, and the fill value where one is out of range. -/
def takenRows (lab : IVec S128 32) (att : Vec F S4x1x256x1x1 .f32) : Vec F S128x1x256x1x1 .f32 :=
  select (broadcastInDim S128x1x256x1x1 ![0] bcast_S128_S128x1x256x1x1_0 (inRange lab))
    (Host.gather gather_S4x1x256x1x1_S128x1_S128x1x256x1x1_1234_0_n_n_0_1_1125611 att (rowNumbers lab))
    (broadcastInDim S128x1x256x1x1 ![] bcast_S_S128x1x256x1x1 (constant S_ .f32 0x7FC00000#32))

/-- A word below 4 is not negative. -/
theorem not_neg (w : BitVec 32) (h : w.toNat < 4) : IntOp.cmpi .slt w 0#32 = 0#1 := by
  have e : w = BitVec.ofNat 32 w.toNat := by simp
  rw [e]
  interval_cases w.toNat <;> rfl

/-- A word below 4 lies between 0 and 3. -/
theorem word_inRange (w : BitVec 32) (h : w.toNat < 4) : IntOp.andi (IntOp.cmpi .sge w 0#32) (IntOp.cmpi .sle w 3#32) = 1#1 := by
  have e : w = BitVec.ofNat 32 w.toNat := by simp
  rw [e]
  interval_cases w.toNat <;> rfl

/-- When every label is below 4, the row number of batch element `b` is its label. -/
theorem rowNumbers_apply (lab : IVec S128 32) (h : ∀ i, (lab i).toNat < 4) (j : S128x1.Idx) :
    rowNumbers lab j = lab (ValueIdx.ix1 (j 0)) := by
  have e : ∀ i, select (cmpi .slt lab (broadcastInDim S128 ![] bcast_S_S128 (constantI S_ 32 0#32)))
      (addi lab (broadcastInDim S128 ![] bcast_S_S128 (constantI S_ 32 4#32))) lab i = lab i := fun i => by
    show (if IntOp.cmpi .slt (lab i) 0#32 = 1#1 then _ else _) = _
    rw [not_neg _ (h i)]
    rfl
  refine (e _).trans (congrArg lab (funext fun a => ?_))
  match a with
  | ⟨0, _⟩ => rfl

/-- When every label is below 4, every row number is in range. -/
theorem inRange_apply (lab : IVec S128 32) (h : ∀ i, (lab i).toNat < 4) (i : S128.Idx) : inRange lab i = 1#1 := by
  refine Host.reduce_andi_one _ _ _ _ _ rfl fun j => ?_
  show IntOp.andi (IntOp.cmpi .sge (rowNumbers lab j) 0#32) (IntOp.cmpi .sle (rowNumbers lab j) 3#32) = 1#1
  rw [rowNumbers_apply lab h]
  exact word_inRange _ (h _)

/-- When every label is below 4, the gather reads, at batch element `b` and channel `k`, the row that `b`'s label names. -/
theorem gather_apply (lab : IVec S128 32) (h : ∀ i, (lab i).toNat < 4) (att : Vec F S4x1x256x1x1 .f32) (b : Fin 128) (k : Fin 256) :
    Host.gather gather_S4x1x256x1x1_S128x1_S128x1x256x1x1_1234_0_n_n_0_1_1125611 att (rowNumbers lab)
        (ValueIdx.ix5 b 0 k 0 0 : S128x1x256x1x1.Idx)
      = att (ValueIdx.ix5 ⟨(lab (ValueIdx.ix1 b)).toNat, h _⟩ 0 k 0 0 : S4x1x256x1x1.Idx) := by
  unfold Host.gather
  congr 1
  funext a
  refine Fin.ext ?_
  match a with
  | ⟨0, _⟩ =>
    have hb := h (ValueIdx.ix1 b)
    have e : rowNumbers lab (gather_S4x1x256x1x1_S128x1_S128x1x256x1x1_1234_0_n_n_0_1_1125611.siIdx
        (ValueIdx.ix5 b 0 k 0 0 : S128x1x256x1x1.Idx) (0 : Fin 1)) = lab (ValueIdx.ix1 b) := rowNumbers_apply lab h _
    show min (rowNumbers lab (gather_S4x1x256x1x1_S128x1_S128x1x256x1x1_1234_0_n_n_0_1_1125611.siIdx
        (ValueIdx.ix5 b 0 k 0 0 : S128x1x256x1x1.Idx) (0 : Fin 1))).toInt.toNat 3 + 0 + 0 = (lab (ValueIdx.ix1 b)).toNat
    rw [e]
    simp only [BitVec.toInt]
    omega
  | ⟨1, _⟩ => rfl
  | ⟨2, _⟩ => exact Nat.zero_add _
  | ⟨3, _⟩ => rfl
  | ⟨4, _⟩ => rfl

/-- When every label is below 4, the reference's row for batch element `b` is the attention row that `b`'s label names. -/
theorem takenRows_apply (lab : IVec S128 32) (h : ∀ i, (lab i).toNat < 4) (att : Vec F S4x1x256x1x1 .f32) (b : Fin 128) (k : Fin 256) :
    takenRows lab att (ValueIdx.ix5 b 0 k 0 0 : S128x1x256x1x1.Idx)
      = att (ValueIdx.ix5 ⟨(lab (ValueIdx.ix1 b)).toNat, h _⟩ 0 k 0 0 : S4x1x256x1x1.Idx) := by
  refine Eq.trans ?_ (gather_apply lab h att b k)
  show (if inRange lab _ = 1#1 then _ else _) = _
  rw [inRange_apply lab h]
  rfl

end Cert.TakenRowsProof

end
-- ==== Proof.ReferenceValue.lean ====
/- The reference's weighted sums, on ℝ: for batch element `b` and channel `k`, the sum over the 32 × 32 positions of the image
   times the attention weight that `b`'s label names. -/
module

public import proofs.«01_k».proof.Proof.TakenRows
public import Idealize.ShloMosaic.Lib.Pointwise

@[expose] public section

noncomputable section

namespace Cert.ReferenceValueProof

open Idealize.ShloMosaic
open Cert.ReferenceWeightedIdeal Cert.ReferenceWeightedIdeal.Gen Cert.TakenRowsProof

/-- What both programs are to compute at batch element `b` and channel `k`: the sum over all positions of the image times the
    attention weight of `b`'s label. -/
def labelledSum (x : Vec Ideal S128x256x32x32 .f32) (lab : IVec S128 32) (h : ∀ i, (lab i).toNat < 4)
    (att : Vec Ideal S4x1x256x1x1 .f32) (b : Fin 128) (k : Fin 256) : Elt Ideal .f32 :=
  ∑ r : Fin 32, ∑ c : Fin 32, x (ValueIdx.ix4 b k r c : S128x256x32x32.Idx)
    * att (ValueIdx.ix5 ⟨(lab (ValueIdx.ix1 b)).toNat, h _⟩ 0 k 0 0 : S4x1x256x1x1.Idx)

variable {F : FTy → Type} [FloatOps F]

/-- The reference's weighted-sum result, of its arguments. -/
def referenceSums (x : Vec F S128x256x32x32 .f32) (lab : IVec S128 32) (att : Vec F S4x1x256x1x1 .f32) : Vec F S128x1x256 .f32 :=
  broadcastInDim S128x1x256 ![0, 2] bcast_S128x256_S128x1x256_0_2
    (Host.reduceAdd (mulf x (broadcastInDim S128x256x32x32 ![0, 1, 2, 3] bcast_S128x256x1x1_S128x256x32x32_0_1_2_3
        (shapeCast S128x256x1x1 (takenRows lab att) shapeCasts_S128x1x256x1x1_S128x256x1x1)))
      (constant S_ .f32 0x00000000#32) reducesTo_S128x256x32x32_S128x256_d2_3 h_S_)

/-- On ℝ, when every label is below 4, the reference's weighted sum is `labelledSum`. -/
theorem referenceSums_eq (x : Vec Ideal S128x256x32x32 .f32) (lab : IVec S128 32) (h : ∀ i, (lab i).toNat < 4)
    (att : Vec Ideal S4x1x256x1x1 .f32) (b : Fin 128) (k : Fin 256) :
    referenceSums x lab att (ValueIdx.ix3 b 0 k : S128x1x256.Idx) = labelledSum x lab h att b k := by
  unfold labelledSum
  pointwise [referenceSums]
  exact Finset.sum_congr rfl fun r _ => Finset.sum_congr rfl fun c _ => congrArg (x _ * ·) (takenRows_apply lab h att b k)

/-- Every index of the weighted-sum result is its batch element's and its channel's. -/
theorem eq_index (j : S128x1x256.Idx) : ∃ (b : Fin 128) (k : Fin 256), j = (ValueIdx.ix3 b 0 k : S128x1x256.Idx) := by
  refine ⟨j 0, j 2, funext fun a => ?_⟩
  match a with
  | ⟨0, _⟩ => rfl
  | ⟨1, _⟩ => exact Subsingleton.elim (α := Fin 1) _ _
  | ⟨2, _⟩ => rfl

end Cert.ReferenceValueProof

end
-- ==== Proof.Runs.lean ====
/- The runs, in the names of each claimed program. The four kernel programs are one text under four names, so the one run of
   `KernelRun` is each one's; so are the two reference programs that return the image alone. -/
module

public import proofs.«01_k».proof.Proof.KernelRun
public import proofs.«01_k».proof.Proof.ReferenceValue
public import proofs.«01_k».proof.Proof.Gen.Kernel
public import proofs.«01_k».proof.Proof.Gen.Reference
public import proofs.«01_k».proof.Proof.Gen.ReferenceIdeal.Run
public import proofs.«01_k».proof.Proof.Gen.KernelWeighted
public import proofs.«01_k».proof.Proof.Gen.KernelWeightedIdeal
public import proofs.«01_k».proof.Proof.Gen.ReferenceWeightedIdeal.Run

@[expose] public section

noncomputable section

namespace Cert.RunsProof

open Idealize.ShloMosaic Idealize.SL.Sem
open Cert.LabelProof Cert.ArrayProof Cert.ReferenceValueProof

variable {F : FTy → Type} [FloatOps F]

/-- The kernel functions' table under `Kernel`'s name is the one under `KernelIdeal`'s. -/
theorem kernel_bodies : Cert.KernelIdeal.defs₀ (F := F) = Cert.Kernel.defs₀ := by
  refine congrArg Defs.onTc (funext fun l => funext fun a => ?_)
  match l, a with
  | ⟨0, _⟩, (_, _) => rfl

/-- So is the whole table. -/
theorem kernel_table : Cert.KernelIdeal.defs (F := F) = Cert.Kernel.defs :=
  congrArg (Pipeline.defs Cert.KernelIdeal.pcfgs) kernel_bodies

/-- `Kernel` ends with its image result at the image argument, the weighted-sum array at `weightedSums`, its arguments unchanged
    and every semaphore at zero, when the labels are below 4. -/
theorem kernel_run (m : (ℓ : Loc Cert.Kernel.nD Cert.Kernel.τ Cert.Kernel.sig) → Buf (Elt F) ℓ)
    (hlt : ∀ b : Fin 128, (labelAt m b).toNat < 4) (ρ : Dev Cert.Kernel.nD → PrngReg) :
    θ_run (Cert.Kernel.defs (F := F)) (onTc (τ := Cert.Kernel.τ) (Cert.Kernel.main (F := F))) ⟨m, fun _ => 0, ρ⟩ fun r => (∀ c : Dev Cert.Kernel.nD,
      r.2.mem ((c.tc : Thread Cert.Kernel.nD Cert.Kernel.τ).loc Cert.Kernel.main_v3) = m ((c.tc : Thread Cert.Kernel.nD Cert.Kernel.τ).loc Cert.Kernel.main_arg0)
      ∧ r.2.mem ((c.tc : Thread Cert.Kernel.nD Cert.Kernel.τ).loc Cert.Kernel.main_v2_1) = weightedSums m hlt c
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0 :=
  Eq.mp (congrArg (fun table => θ_run table (onTc (τ := Cert.KernelIdeal.τ) (Cert.KernelIdeal.main (F := F))) ⟨m, fun _ => 0, ρ⟩ _) kernel_table)
    (Cert.KernelRunProof.run m hlt ρ)

/-- The kernel functions' table under `KernelWeighted`'s name is the one under `KernelIdeal`'s. -/
theorem kernelWeighted_bodies : Cert.KernelIdeal.defs₀ (F := F) = Cert.KernelWeighted.defs₀ := by
  refine congrArg Defs.onTc (funext fun l => funext fun a => ?_)
  match l, a with
  | ⟨0, _⟩, (_, _) => rfl

/-- So is the whole table. -/
theorem kernelWeighted_table : Cert.KernelIdeal.defs (F := F) = Cert.KernelWeighted.defs :=
  congrArg (Pipeline.defs Cert.KernelIdeal.pcfgs) kernelWeighted_bodies

/-- The same of `KernelWeighted`. -/
theorem kernelWeighted_run (m : (ℓ : Loc Cert.KernelWeighted.nD Cert.KernelWeighted.τ Cert.KernelWeighted.sig) → Buf (Elt F) ℓ)
    (hlt : ∀ b : Fin 128, (labelAt m b).toNat < 4) (ρ : Dev Cert.KernelWeighted.nD → PrngReg) :
    θ_run (Cert.KernelWeighted.defs (F := F)) (onTc (τ := Cert.KernelWeighted.τ) (Cert.KernelWeighted.main (F := F))) ⟨m, fun _ => 0, ρ⟩ fun r => (∀ c : Dev Cert.KernelWeighted.nD,
      r.2.mem ((c.tc : Thread Cert.KernelWeighted.nD Cert.KernelWeighted.τ).loc Cert.KernelWeighted.main_v3) = m ((c.tc : Thread Cert.KernelWeighted.nD Cert.KernelWeighted.τ).loc Cert.KernelWeighted.main_arg0)
      ∧ r.2.mem ((c.tc : Thread Cert.KernelWeighted.nD Cert.KernelWeighted.τ).loc Cert.KernelWeighted.main_v2_1) = weightedSums m hlt c
      ∧ r.2.mem ((c.tc : Thread Cert.KernelWeighted.nD Cert.KernelWeighted.τ).loc Cert.KernelWeighted.main_arg0) = m ((c.tc : Thread Cert.KernelWeighted.nD Cert.KernelWeighted.τ).loc Cert.KernelWeighted.main_arg0)
      ∧ r.2.mem ((c.tc : Thread Cert.KernelWeighted.nD Cert.KernelWeighted.τ).loc Cert.KernelWeighted.main_arg1) = m ((c.tc : Thread Cert.KernelWeighted.nD Cert.KernelWeighted.τ).loc Cert.KernelWeighted.main_arg1)
      ∧ r.2.mem ((c.tc : Thread Cert.KernelWeighted.nD Cert.KernelWeighted.τ).loc Cert.KernelWeighted.main_arg2) = m ((c.tc : Thread Cert.KernelWeighted.nD Cert.KernelWeighted.τ).loc Cert.KernelWeighted.main_arg2))
      ∧ r.2.sem = fun _ => 0 :=
  Eq.mp (congrArg (fun table => θ_run table (onTc (τ := Cert.KernelIdeal.τ) (Cert.KernelIdeal.main (F := F))) ⟨m, fun _ => 0, ρ⟩ _) kernelWeighted_table)
    (Cert.KernelRunProof.run m hlt ρ)

/-- The kernel functions' table under `KernelWeightedIdeal`'s name is the one under `KernelIdeal`'s. -/
theorem kernelWeightedIdeal_bodies : Cert.KernelIdeal.defs₀ (F := F) = Cert.KernelWeightedIdeal.defs₀ := by
  refine congrArg Defs.onTc (funext fun l => funext fun a => ?_)
  match l, a with
  | ⟨0, _⟩, (_, _) => rfl

/-- So is the whole table. -/
theorem kernelWeightedIdeal_table : Cert.KernelIdeal.defs (F := F) = Cert.KernelWeightedIdeal.defs :=
  congrArg (Pipeline.defs Cert.KernelIdeal.pcfgs) kernelWeightedIdeal_bodies

/-- The same of `KernelWeightedIdeal`. -/
theorem kernelWeightedIdeal_run (m : (ℓ : Loc Cert.KernelWeightedIdeal.nD Cert.KernelWeightedIdeal.τ Cert.KernelWeightedIdeal.sig) → Buf (Elt F) ℓ)
    (hlt : ∀ b : Fin 128, (labelAt m b).toNat < 4) (ρ : Dev Cert.KernelWeightedIdeal.nD → PrngReg) :
    θ_run (Cert.KernelWeightedIdeal.defs (F := F)) (onTc (τ := Cert.KernelWeightedIdeal.τ) (Cert.KernelWeightedIdeal.main (F := F))) ⟨m, fun _ => 0, ρ⟩ fun r => (∀ c : Dev Cert.KernelWeightedIdeal.nD,
      r.2.mem ((c.tc : Thread Cert.KernelWeightedIdeal.nD Cert.KernelWeightedIdeal.τ).loc Cert.KernelWeightedIdeal.main_v3) = m ((c.tc : Thread Cert.KernelWeightedIdeal.nD Cert.KernelWeightedIdeal.τ).loc Cert.KernelWeightedIdeal.main_arg0)
      ∧ r.2.mem ((c.tc : Thread Cert.KernelWeightedIdeal.nD Cert.KernelWeightedIdeal.τ).loc Cert.KernelWeightedIdeal.main_v2_1) = weightedSums m hlt c
      ∧ r.2.mem ((c.tc : Thread Cert.KernelWeightedIdeal.nD Cert.KernelWeightedIdeal.τ).loc Cert.KernelWeightedIdeal.main_arg0) = m ((c.tc : Thread Cert.KernelWeightedIdeal.nD Cert.KernelWeightedIdeal.τ).loc Cert.KernelWeightedIdeal.main_arg0)
      ∧ r.2.mem ((c.tc : Thread Cert.KernelWeightedIdeal.nD Cert.KernelWeightedIdeal.τ).loc Cert.KernelWeightedIdeal.main_arg1) = m ((c.tc : Thread Cert.KernelWeightedIdeal.nD Cert.KernelWeightedIdeal.τ).loc Cert.KernelWeightedIdeal.main_arg1)
      ∧ r.2.mem ((c.tc : Thread Cert.KernelWeightedIdeal.nD Cert.KernelWeightedIdeal.τ).loc Cert.KernelWeightedIdeal.main_arg2) = m ((c.tc : Thread Cert.KernelWeightedIdeal.nD Cert.KernelWeightedIdeal.τ).loc Cert.KernelWeightedIdeal.main_arg2))
      ∧ r.2.sem = fun _ => 0 :=
  Eq.mp (congrArg (fun table => θ_run table (onTc (τ := Cert.KernelIdeal.τ) (Cert.KernelIdeal.main (F := F))) ⟨m, fun _ => 0, ρ⟩ _) kernelWeightedIdeal_table)
    (Cert.KernelRunProof.run m hlt ρ)

/-- `ReferenceIdeal` ends with its arguments unchanged, its results among them, and every semaphore at zero. -/
theorem referenceIdeal_run (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0 :=
  (θ_run _ _ _).mono (fun r h => ⟨fun c => (h c).2.2, Idealize.ShloMosaic.sem_eq_zero_of_no_sems (by decide) r.2⟩)
    (Cert.ReferenceIdeal.Value.run m ρ)

/-- The same of `Reference`. -/
theorem reference_run (m : (ℓ : Loc Cert.Reference.nD Cert.Reference.τ Cert.Reference.sig) → Buf (Elt F) ℓ) (ρ : Dev Cert.Reference.nD → PrngReg) :
    θ_run (Cert.Reference.defs (F := F)) (onTc (τ := Cert.Reference.τ) (Cert.Reference.main (F := F))) ⟨m, fun _ => 0, ρ⟩ fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0 :=
  referenceIdeal_run m ρ

/-- `ReferenceWeightedIdeal` ends with its weighted-sum result at `referenceSums`, its arguments unchanged and every semaphore at zero. -/
theorem referenceWeightedIdeal_run (m : (ℓ : Loc Cert.ReferenceWeightedIdeal.nD Cert.ReferenceWeightedIdeal.τ Cert.ReferenceWeightedIdeal.sig) → Buf (Elt F) ℓ) (ρ : Dev Cert.ReferenceWeightedIdeal.nD → PrngReg) :
    θ_run (Cert.ReferenceWeightedIdeal.defs (F := F)) (onTc (τ := Cert.ReferenceWeightedIdeal.τ) (Cert.ReferenceWeightedIdeal.main (F := F))) ⟨m, fun _ => 0, ρ⟩ fun r => (∀ c : Dev Cert.ReferenceWeightedIdeal.nD,
      r.2.mem ((c.tc : Thread Cert.ReferenceWeightedIdeal.nD Cert.ReferenceWeightedIdeal.τ).loc Cert.ReferenceWeightedIdeal.main_v5)
          = referenceSums (m ((c.tc : Thread Cert.ReferenceWeightedIdeal.nD Cert.ReferenceWeightedIdeal.τ).loc Cert.ReferenceWeightedIdeal.main_arg0)) (m ((c.tc : Thread Cert.ReferenceWeightedIdeal.nD Cert.ReferenceWeightedIdeal.τ).loc Cert.ReferenceWeightedIdeal.main_arg1))
              (m ((c.tc : Thread Cert.ReferenceWeightedIdeal.nD Cert.ReferenceWeightedIdeal.τ).loc Cert.ReferenceWeightedIdeal.main_arg2))
      ∧ r.2.mem ((c.tc : Thread Cert.ReferenceWeightedIdeal.nD Cert.ReferenceWeightedIdeal.τ).loc Cert.ReferenceWeightedIdeal.main_arg0) = m ((c.tc : Thread Cert.ReferenceWeightedIdeal.nD Cert.ReferenceWeightedIdeal.τ).loc Cert.ReferenceWeightedIdeal.main_arg0)
      ∧ r.2.mem ((c.tc : Thread Cert.ReferenceWeightedIdeal.nD Cert.ReferenceWeightedIdeal.τ).loc Cert.ReferenceWeightedIdeal.main_arg1) = m ((c.tc : Thread Cert.ReferenceWeightedIdeal.nD Cert.ReferenceWeightedIdeal.τ).loc Cert.ReferenceWeightedIdeal.main_arg1)
      ∧ r.2.mem ((c.tc : Thread Cert.ReferenceWeightedIdeal.nD Cert.ReferenceWeightedIdeal.τ).loc Cert.ReferenceWeightedIdeal.main_arg2) = m ((c.tc : Thread Cert.ReferenceWeightedIdeal.nD Cert.ReferenceWeightedIdeal.τ).loc Cert.ReferenceWeightedIdeal.main_arg2))
      ∧ r.2.sem = fun _ => 0 :=
  (θ_run _ _ _).mono (fun r h => ⟨fun c => ⟨(h c).2.2.1, (h c).2.2.2⟩, Idealize.ShloMosaic.sem_eq_zero_of_no_sems (by decide) r.2⟩)
    (Cert.ReferenceWeightedIdeal.Value.run m ρ)

end Cert.RunsProof

end
-- ==== Proof.BlockValue.lean ====
/- The kernel body's weighted sum, on ℝ: at each channel, the sum over the 1024 positions of image times attention weight. -/
module

public import proofs.«01_k».proof.Proof.Gen.KernelIdeal.Frame
public import Idealize.ShloMosaic.Lib.Pointwise
public import Idealize.ShloMosaic.Lib.ValueIdx

@[expose] public section

noncomputable section

namespace Cert.BlockProof

open Idealize.ShloMosaic
open Cert.KernelIdeal Cert.KernelIdeal.Gen

/-- On ℝ the body's weighted sum at channel `k` is the sum, over the 1024 positions, of the image block times the attention row. -/
theorem pay3_eq (v : Vec Ideal S1x256x1024 .f32) (a : Vec Ideal S1x1x256 .f32) (k : Fin 256) :
    k0_pay3 v a (ValueIdx.ix3 0 0 k : S1x1x256.Idx)
      = ∑ l : Fin 1024, v (ValueIdx.ix3 0 k l : S1x256x1024.Idx) * a (ValueIdx.ix3 0 0 k : S1x1x256.Idx) := by
  pointwise [k0_pay3, k0_pay1]
  rfl

end Cert.BlockProof

end
-- ==== Proof.Equation.lean ====
/- The equation: on ℝ, when every label is below 4, the kernel's weighted sums are the reference's. The kernel sums the 1024
   positions of an image laid out in one row, the reference the 32 × 32 positions: the same terms. -/
module

public import proofs.«01_k».proof.Proof.KernelRun
public import proofs.«01_k».proof.Proof.BlockValue
public import proofs.«01_k».proof.Proof.ReferenceValue

@[expose] public section

noncomputable section

namespace Cert.EquationProof

open Idealize.ShloMosaic Idealize.ShloMosaic.TcCoe
open Cert.KernelIdeal Cert.KernelIdeal.Gen Cert.LabelProof Cert.ArrayProof Cert.KernelRunProof Cert.BlockProof Cert.ReferenceValueProof

section
variable {F : FTy → Type} [FloatOps F]
variable (m : (ℓ : Loc nD τ sig) → Buf (Elt F) ℓ)

/-- In batch element `b`'s block, position `32 r + c` of channel `k` is position `(r, c)` of the image argument's channel `k`. -/
theorem imageBlock_apply (d : Dev nD) (b : Fin 128) (k : Fin 256) (r c : Fin 32) (hl : r.val * 32 + c.val < 1024) :
    imageBlock m d b (ValueIdx.ix3 0 k ⟨r.val * 32 + c.val, hl⟩ : S1x256x1024.Idx)
      = m ((d : Thread nD τ).loc main_arg0) (ValueIdx.ix4 b k r c : S128x256x32x32.Idx) := by
  unfold imageBlock
  rw [entry_image]
  generalize m ((d : Thread nD τ).loc main_arg0) = x
  pointwise
  have hc := c.isLt
  have hq : (⟨(r.val * 32 + c.val) / 32, by omega⟩ : Fin 32) = r := Fin.ext (by show (r.val * 32 + c.val) / 32 = r.val; omega)
  have hr : (⟨(r.val * 32 + c.val) % 32, by omega⟩ : Fin 32) = c := Fin.ext (by show (r.val * 32 + c.val) % 32 = c.val; omega)
  exact congrArg₂ (fun p q : Fin 32 => x (ValueIdx.ix4 b k p q : S128x256x32x32.Idx)) hq hr

/-- Row `r` of the reshaped attention array at channel `k` is the attention argument's at row `r` and channel `k`. -/
theorem attentionRow_apply (d : Dev nD) (r : Fin 4) (k : Fin 256) :
    attentionRow m d r (ValueIdx.ix3 0 0 k : S1x1x256.Idx)
      = m ((d : Thread nD τ).loc main_arg2) (ValueIdx.ix5 r 0 k 0 0 : S4x1x256x1x1.Idx) := by
  unfold attentionRow
  rw [entry_attention]
  generalize m ((d : Thread nD τ).loc main_arg2) = att
  pointwise
  rfl

end

variable (m : (ℓ : Loc nD τ sig) → Buf (Elt Ideal) ℓ)

/-- On ℝ, when every label is below 4, the kernel's weighted sum at batch element `b` and channel `k` is `labelledSum`. -/
theorem weightedSums_eq (hlt : ∀ b : Fin 128, (labelAt m b).toNat < 4) (d : Dev nD)
    (h : ∀ i : S128.Idx, (m ((d : Thread nD τ).loc main_arg1) i).toNat < 4) (b : Fin 128) (k : Fin 256) :
    weightedSums m hlt d (ValueIdx.ix3 b 0 k : S128x1x256.Idx)
      = labelledSum (m ((d : Thread nD τ).loc main_arg0)) (m ((d : Thread nD τ).loc main_arg1)) h
          (m ((d : Thread nD τ).loc main_arg2)) b k := by
  obtain rfl : d = 0 := Subsingleton.elim (α := Fin 1) _ _
  refine (pay3_eq _ _ k).trans (Eq.symm ?_)
  refine Fin.sum_mul_add_congr fun r c hl => ?_
  exact congrArg₂ (· * ·) (imageBlock_apply m 0 b k r c hl).symm (attentionRow_apply m 0 _ k).symm

/-- On ℝ, when every label is below 4, the kernel's weighted sums are the reference's. -/
theorem sums_eq (hlt : ∀ b : Fin 128, (labelAt m b).toNat < 4) (d : Dev nD)
    (h : ∀ i : S128.Idx, (m ((d : Thread nD τ).loc main_arg1) i).toNat < 4) :
    weightedSums m hlt d = referenceSums (m ((d : Thread nD τ).loc main_arg0)) (m ((d : Thread nD τ).loc main_arg1))
      (m ((d : Thread nD τ).loc main_arg2)) := by
  funext j
  obtain ⟨b, k, rfl⟩ := eq_index j
  exact (weightedSums_eq m hlt d h b k).trans (referenceSums_eq _ _ h _ b k).symm

end Cert.EquationProof

end
-- ==== Proof.lean ====
/- The claims, assembled: the frames from the runs (Proof/Runs.lean), the image claims from the same runs, and the weighted-sum
   claim with the equation (Proof/Equation.lean). The precondition gives the label bound (Proof/Labels.lean). -/
module

public import proofs.«01_k».proof.Defs
public import proofs.«01_k».proof.Proof.Runs
public import proofs.«01_k».proof.Proof.Equation
public import proofs.«01_k».proof.Proof.Gen.Kernel
public import proofs.«01_k».proof.Proof.Gen.KernelIdeal
public import proofs.«01_k».proof.Proof.Gen.KernelIdeal.Frame
public import proofs.«01_k».proof.Proof.Gen.Reference
public import proofs.«01_k».proof.Proof.Gen.ReferenceIdeal
public import proofs.«01_k».proof.Proof.Gen.ReferenceIdeal.Run
public import proofs.«01_k».proof.Proof.Gen.KernelWeighted
public import proofs.«01_k».proof.Proof.Gen.KernelWeightedIdeal
public import proofs.«01_k».proof.Proof.Gen.ReferenceWeightedIdeal
public import proofs.«01_k».proof.Proof.Gen.ReferenceWeightedIdeal.Run
public import proofs.«01_k».proof.Proof.Gen.Pre_labels_in_range
public import Idealize.ShloMosaic.Adequacy
public import Idealize.ShloMosaic.Init

@[expose] public section

noncomputable section

namespace Cert.Proof

open Idealize.ShloMosaic Idealize.SL.Sem Cert.Kernel
open Cert.LabelProof Cert.ArrayProof Cert.RunsProof Cert.EquationProof

/-- `Kernel` keeps its arguments and ends with every semaphore at zero. -/
theorem frame_kernel : Cert.quiescent_Kernel := fun m g h =>
  (θ_run _ _ _).mono (fun _ r => ⟨fun c => (r.1 c).2.2, r.2⟩) (kernel_run m (fun b => label_lt _ _ _ (h 0) (ValueIdx.ix1 b)) g)

/-- `KernelIdeal` keeps its arguments and ends with every semaphore at zero. -/
theorem frame_kernelIdeal : Cert.quiescent_KernelIdeal := fun m g h =>
  (θ_run _ _ _).mono (fun _ r => ⟨fun c => (r.1 c).2.2, r.2⟩)
    (Cert.KernelRunProof.run m (fun b => label_lt _ _ _ (h 0) (ValueIdx.ix1 b)) g)

/-- `KernelWeighted` keeps its arguments and ends with every semaphore at zero. -/
theorem frame_kernelWeighted : Cert.quiescent_KernelWeighted := fun m g h =>
  (θ_run _ _ _).mono (fun _ r => ⟨fun c => (r.1 c).2.2, r.2⟩)
    (kernelWeighted_run m (fun b => label_lt _ _ _ (h 0) (ValueIdx.ix1 b)) g)

/-- `KernelWeightedIdeal` keeps its arguments and ends with every semaphore at zero. -/
theorem frame_kernelWeightedIdeal : Cert.quiescent_KernelWeightedIdeal := fun m g h =>
  (θ_run _ _ _).mono (fun _ r => ⟨fun c => (r.1 c).2.2, r.2⟩)
    (kernelWeightedIdeal_run m (fun b => label_lt _ _ _ (h 0) (ValueIdx.ix1 b)) g)

/-- `ReferenceWeightedIdeal` keeps its arguments and ends with every semaphore at zero. -/
theorem frame_referenceWeightedIdeal : Cert.quiescent_ReferenceWeightedIdeal := fun m g _ =>
  (θ_run _ _ _).mono (fun _ r => ⟨fun c => (r.1 c).2, r.2⟩) (referenceWeightedIdeal_run m g)

/-- On ℝ, `KernelIdeal`'s two results are `ReferenceIdeal`'s. -/
theorem algebraic : Cert.algebraic_KernelIdeal_ReferenceIdeal := fun m g m' g' h e =>
  ⟨fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg2),
    (θ_run _ _ _).mono (fun _ r c => ⟨(r.1 c).1, (r.1 c).2.2.2.2, (r.1 c).2.2⟩)
      (Cert.KernelRunProof.run m (fun b => label_lt _ _ _ (h 0) (ValueIdx.ix1 b)) g),
    (θ_run _ _ _).mono (fun _ r c => ⟨(r.1 c).1.trans (e c).1, (r.1 c).2.2.trans (e c).2.2, r.1 c⟩) (referenceIdeal_run m' g')⟩

/-- Bit for bit, `Kernel`'s two results are `Reference`'s. -/
theorem bitexact : Cert.bitexact_Kernel_Reference := fun m g m' g' h e =>
  ⟨fun c => m ((c.tc : Thread Cert.Kernel.nD Cert.Kernel.τ).loc Cert.Kernel.main_arg0),
    fun c => m ((c.tc : Thread Cert.Kernel.nD Cert.Kernel.τ).loc Cert.Kernel.main_arg2),
    (θ_run _ _ _).mono (fun _ r c => ⟨(r.1 c).1, (r.1 c).2.2.2.2, (r.1 c).2.2⟩)
      (kernel_run m (fun b => label_lt _ _ _ (h 0) (ValueIdx.ix1 b)) g),
    (θ_run _ _ _).mono (fun _ r c => ⟨(r.1 c).1.trans (e c).1, (r.1 c).2.2.trans (e c).2.2, r.1 c⟩) (reference_run m' g')⟩

/-- On ℝ, `KernelWeightedIdeal`'s three results, the weighted sums among them, are `ReferenceWeightedIdeal`'s. -/
theorem algebraic_weighted : Cert.algebraic_KernelWeightedIdeal_ReferenceWeightedIdeal := fun m g m' g' h e =>
  have hlt : ∀ b : Fin 128, (labelAt m b).toNat < 4 := fun b => label_lt _ _ _ (h 0) (ValueIdx.ix1 b)
  ⟨fun c => m ((c.tc : Thread Cert.KernelWeightedIdeal.nD Cert.KernelWeightedIdeal.τ).loc Cert.KernelWeightedIdeal.main_arg0),
    fun c => m ((c.tc : Thread Cert.KernelWeightedIdeal.nD Cert.KernelWeightedIdeal.τ).loc Cert.KernelWeightedIdeal.main_arg2),
    fun c => weightedSums m hlt c,
    (θ_run _ _ _).mono (fun _ r c => ⟨(r.1 c).1, (r.1 c).2.2.2.2, (r.1 c).2.1, (r.1 c).2.2⟩) (kernelWeightedIdeal_run m hlt g),
    (θ_run _ _ _).mono (fun _ r c => by
      refine ⟨(r.1 c).2.1.trans (e c).1, (r.1 c).2.2.2.trans (e c).2.2, (r.1 c).1.trans ?_, (r.1 c).2⟩
      rw [(e c).1, (e c).2.1, (e c).2.2]
      exact (sums_eq m hlt c fun i => label_lt _ _ _ (h c) i).symm) (referenceWeightedIdeal_run m' g')⟩

/-- Every claim of the problem. -/
theorem claim : Cert.Claim :=
  ⟨Cert.Kernel.Gen.facts, Cert.KernelIdeal.Gen.facts, Cert.Reference.Gen.facts, Cert.ReferenceIdeal.Gen.facts,
    Cert.KernelWeighted.Gen.facts, Cert.KernelWeightedIdeal.Gen.facts, Cert.ReferenceWeightedIdeal.Gen.facts, Cert.Pre_labels_in_range.Gen.facts,
    frame_kernel, frame_kernelIdeal,
    fun m g _ => reference_run m g, fun m g _ => reference_run m g,
    fun m g _ => referenceIdeal_run m g, fun m g _ => referenceIdeal_run m g,
    frame_kernelWeighted, frame_kernelWeightedIdeal,
    frame_referenceWeightedIdeal, fun m g _ => frame_referenceWeightedIdeal m g trivial,
    trivial, algebraic, bitexact, trivial, algebraic_weighted⟩

end Cert.Proof

end
